-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps_sub_conf" .f32 0xBF666632#32 ((-28799 / 31999 : ℝ) : EReal)
  ∧ IdealRules.named_const.Statement Cert.KernelIdeal.κ "eps" .f32 0x3651B8C5#32 ((1 / 319990 : ℝ) : EReal)
  ∧ IdealRules.named_const.Statement Cert.KernelIdeal.κ "c0" .f32 0xBFAE6413#32 (((1 / 10) * (Real.log (387420489 / 319990000000000)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2048x32000 : Shape := ⟨2, ![2048, 32000]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x32000 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 32000#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048x32000 : Shape := ⟨2, ![2048, 32000]⟩
abbrev S2048 : Shape := ⟨1, ![2048]⟩
abbrev S2048x1 : Shape := ⟨2, ![2048, 1]⟩
abbrev S2 : Shape := ⟨1, ![2]⟩
abbrev S1 : Shape := ⟨1, ![1]⟩
abbrev S_ : Shape := ⟨0, ![]⟩
abbrev S256x1 : Shape := ⟨2, ![256, 1]⟩
abbrev S256x1280 : Shape := ⟨2, ![256, 1280]⟩
abbrev S1x256x1280 : Shape := ⟨3, ![1, 256, 1280]⟩
abbrev S1x1x1 : Shape := ⟨3, ![1, 1, 1]⟩
abbrev S1x256x1 : Shape := ⟨3, ![1, 256, 1]⟩

abbrev nBuf : Space → Nat
  | .hbm => 9
  | .vmem => 4
  | .smem => 1
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S2048x1, .i32⟩
  | .hbm, ⟨3, _⟩ => ⟨S2, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x1280, .f32⟩
  | .local _ .vmem, ⟨3, _⟩ => ⟨S256x1280, .f32⟩
  | .local _ .smem, ⟨0, _⟩ => ⟨S2, .f32⟩
  | _, _ => ⟨S2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "c0" => some (((1 / 10) * (Real.log (387420489 / 319990000000000)) : ℝ) : EReal)
  | "eps" => some ((1 / 319990 : ℝ) : EReal)
  | "eps_sub_conf" => some ((-28799 / 31999 : ℝ) : EReal)
  | _ => none
-- ==== ReferenceIdeal.lean ====
abbrev S2048x32000 : Shape := ⟨2, ![2048, 32000]⟩
abbrev S2048 : Shape := ⟨1, ![2048]⟩
abbrev S_ : Shape := ⟨0, ![]⟩
abbrev S2048x1 : Shape := ⟨2, ![2048, 1]⟩
abbrev S2048x2 : Shape := ⟨2, ![2048, 2]⟩

abbrev nBuf : Space → Nat
  | .hbm => 52
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x32000, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x1, .i32⟩
  | .hbm, ⟨38, _⟩ => ⟨S2048x2, .i32⟩
  | .hbm, ⟨39, _⟩ => ⟨S2048, .f32⟩
  | .hbm, ⟨40, _⟩ => ⟨S2048x32000, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S2048x1, .i1⟩
  | .hbm, ⟨45, _⟩ => ⟨S_, .f32⟩
  | .hbm, ⟨46, _⟩ => ⟨S2048x32000, .f32⟩
  | .hbm, ⟨47, _⟩ => ⟨S2048x32000, .i1⟩
  | .hbm, ⟨48, _⟩ => ⟨S2048x32000, .f32⟩
  | .hbm, ⟨49, _⟩ => ⟨S_, .f32⟩
  | .hbm, ⟨50, _⟩ => ⟨S_, .f32⟩
  | .hbm, ⟨51, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_c_4 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_7 : Ref sig .tc := ⟨.hbm, 29, rfl⟩
abbrev main_v16 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_call1_v0 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Proof.Body.lean ====
/-
  What the kernel body leaves in the two words of the result block, at each of the four kinds of grid point: the first
  point (both words are set to zero before anything is added), the other points with column block 0 (the row block's mask
  is counted), the last point (the constant times the count is added at the end), and the rest.
-/
module

public import proofs.«01_k».proof.Defs
public import proofs.«01_k».proof.Proof.Gen.KernelIdeal.Frame
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Sum

open Cert.KernelIdeal Cert.KernelIdeal.Gen

variable {F : FTy → Type} [FloatOps F] [Named F]

/-- The first of the two words that the result block holds. -/
abbrev e0 : S2.Idx := ix1 (0 : Fin 2)
/-- The second of them. -/
abbrev e1 : S2.Idx := ix1 (1 : Fin 2)

/-- The index list of a whole-block load is zero everywhere. -/
theorem zeros : (![0, 0] : Fin 2 → Nat) = fun _ => 0 := funext fun a => by fin_cases a <;> rfl

section Words

variable {Val : EltTy → Type} {sig : RefSig} {κ : Kind} {sp : Space} (v : View sig κ sp S2 .f32) (f : v.ty.Contents Val)
  (a : Val .f32) (L : List (View.Piece Val S2 .f32))

/-- A word stored last is what the block holds there. -/
theorem hit0 (inb : ∀ d, (![0] : Fin 1 → Nat) d + (![1] : Fin 1 → Nat) d ≤ S2.size d) :
    v.read Val (v.writes Val f ((⟨Rect.unit ![0] ![1] inb, fun _ => a⟩ : View.Piece Val S2 .f32) :: L)) e0 = a :=
  View.read_writes_cons_unit_of_mem v f inb (fun _ => a) L e0 (ix1 (0 : Fin 1)) rfl
    fun d => match d with | ⟨0, _⟩ => rfl

/-- A word stored last is what the block holds there. -/
theorem hit1 (inb : ∀ d, (![1] : Fin 1 → Nat) d + (![1] : Fin 1 → Nat) d ≤ S2.size d) :
    v.read Val (v.writes Val f ((⟨Rect.unit ![1] ![1] inb, fun _ => a⟩ : View.Piece Val S2 .f32) :: L)) e1 = a :=
  View.read_writes_cons_unit_of_mem v f inb (fun _ => a) L e1 (ix1 (0 : Fin 1)) rfl
    fun d => match d with | ⟨0, _⟩ => rfl

/-- A store of the first word leaves the second. -/
theorem miss1 (w : (⟨1, ![1]⟩ : Shape).Idx → Val .f32) (inb : ∀ d, (![0] : Fin 1 → Nat) d + (![1] : Fin 1 → Nat) d ≤ S2.size d) :
    v.read Val (v.writes Val f ((⟨Rect.unit ![0] ![1] inb, w⟩ : View.Piece Val S2 .f32) :: L)) e1
      = v.read Val (v.writes Val f L) e1 :=
  View.read_writes_cons_unit_of_not_mem v f inb w L e1 rfl (0 : Fin 1) (.inr (by decide))

/-- A store of the second word leaves the first. -/
theorem miss0 (w : (⟨1, ![1]⟩ : Shape).Idx → Val .f32) (inb : ∀ d, (![1] : Fin 1 → Nat) d + (![1] : Fin 1 → Nat) d ≤ S2.size d) :
    v.read Val (v.writes Val f ((⟨Rect.unit ![1] ![1] inb, w⟩ : View.Piece Val S2 .f32) :: L)) e0
      = v.read Val (v.writes Val f L) e0 :=
  View.read_writes_cons_unit_of_not_mem v f inb w L e0 rfl (0 : Fin 1) (.inl (by decide))

/-- A load of one word of a block reads the block there. -/
theorem ld0 (X : S2.Idx → Val .f32) (inb : ∀ d, (![0] : Fin 1 → Nat) d + (![1] : Fin 1 → Nat) d ≤ S2.size d)
    (h : 0 < (Rect.unit (s := S2) ![0] ![1] inb).shape.numel) :
    View.ld X (Rect.unit ![0] ![1] inb) (Shape.Idx.first h) = X e0 :=
  congrArg X (funext fun d => match d with | ⟨0, _⟩ => rfl)

/-- A load of one word of a block reads the block there. -/
theorem ld1 (X : S2.Idx → Val .f32) (inb : ∀ d, (![1] : Fin 1 → Nat) d + (![1] : Fin 1 → Nat) d ≤ S2.size d)
    (h : 0 < (Rect.unit (s := S2) ![1] ![1] inb).shape.numel) :
    View.ld X (Rect.unit ![1] ![1] inb) (Shape.Idx.first h) = X e1 :=
  congrArg X (funext fun d => match d with | ⟨0, _⟩ => rfl)

end Words

variable (c : Dev nD) (i : grid0.Coords) (a2 : Memref sig .tc .vmem S256x1 .i32) (h2 : a2.IsWhole)
    (a3 : Memref sig .tc .vmem S256x1280 .f32) (h3 : a3.IsWhole) (a4 : Memref sig .tc .smem S2 .f32) (h4 : a4.IsWhole)
    (x0 : Vec F S256x1 .i32) (x1 : Vec F S256x1280 .f32) (xo : Vec F S2 .f32)

/-- The zero that the first point stores in both words. -/
abbrev zero : F .f32 := FloatOps.ofBits .f32 0x00000000#32

/-- The first point sets the first word to zero and adds its block's sum. -/
theorem out_A0 (hc0 : cond0_0 i) (hc1 : cond0_1 i) (hc2 : ¬cond0_2 i) :
    out0_A_2 c i a2 h2 a3 h3 a4 h4 hc0 hc1 hc2 x0 x1 e0 = k0_pay4 i x1 x0 zero := by
  unfold out0_A_2 kernelRun0_A
  dsimp only
  sl_unfold_words
  refine (miss0 ..).trans ((hit0 ..).trans ?_)
  simp only [View.readAt_eq_ld, h2.read_unread, h3.read_unread, h4.read_unread, View.ld_unit_zero (S := S256x1) zeros, View.ld_unit_zero (S := S256x1280) zeros]

/-- The first point sets the second word to zero and adds its block's count. -/
theorem out_A1 (hc0 : cond0_0 i) (hc1 : cond0_1 i) (hc2 : ¬cond0_2 i) :
    out0_A_2 c i a2 h2 a3 h3 a4 h4 hc0 hc1 hc2 x0 x1 e1 = k0_pay5 x0 zero := by
  unfold out0_A_2 kernelRun0_A
  dsimp only
  sl_unfold_words
  refine (hit1 ..).trans ?_
  simp only [View.readAt_eq_ld, h2.read_unread, h3.read_unread, h4.read_unread, View.ld_unit_zero (S := S256x1) zeros, View.ld_unit_zero (S := S256x1280) zeros]

/-- A plain point adds its block's sum to the first word. -/
theorem out_B0 (hc0 : ¬cond0_0 i) (hc1 : ¬cond0_1 i) (hc2 : ¬cond0_2 i) :
    out0_B_2 c i a2 h2 a3 h3 a4 h4 hc0 hc1 hc2 x0 x1 xo e0 = k0_pay4 i x1 x0 (xo e0) := by
  unfold out0_B_2 kernelRun0_B
  dsimp only
  sl_unfold_words
  refine (hit0 ..).trans ?_
  simp only [View.readAt_eq_ld, h2.read_unread, h3.read_unread, h4.read_unread, View.ld_unit_zero (S := S256x1) zeros, View.ld_unit_zero (S := S256x1280) zeros]
  rw [ld0]

/-- A plain point leaves the second word. -/
theorem out_B1 (hc0 : ¬cond0_0 i) (hc1 : ¬cond0_1 i) (hc2 : ¬cond0_2 i) :
    out0_B_2 c i a2 h2 a3 h3 a4 h4 hc0 hc1 hc2 x0 x1 xo e1 = xo e1 := by
  unfold out0_B_2 kernelRun0_B
  dsimp only
  sl_unfold_words
  refine (miss1 ..).trans ?_
  exact congrFun (h4.read_unread xo) e1

/-- A point with column block 0 adds its block's sum to the first word. -/
theorem out_C0 (hc0 : ¬cond0_0 i) (hc1 : cond0_1 i) (hc2 : ¬cond0_2 i) :
    out0_C_2 c i a2 h2 a3 h3 a4 h4 hc0 hc1 hc2 x0 x1 xo e0 = k0_pay4 i x1 x0 (xo e0) := by
  unfold out0_C_2 kernelRun0_C
  dsimp only
  sl_unfold_words
  refine (miss0 ..).trans ((hit0 ..).trans ?_)
  simp only [View.readAt_eq_ld, h2.read_unread, h3.read_unread, h4.read_unread, View.ld_unit_zero (S := S256x1) zeros, View.ld_unit_zero (S := S256x1280) zeros]
  rw [ld0]

/-- A point with column block 0 adds its block's count to the second word. -/
theorem out_C1 (hc0 : ¬cond0_0 i) (hc1 : cond0_1 i) (hc2 : ¬cond0_2 i) :
    out0_C_2 c i a2 h2 a3 h3 a4 h4 hc0 hc1 hc2 x0 x1 xo e1 = k0_pay5 x0 (xo e1) := by
  unfold out0_C_2 kernelRun0_C
  dsimp only
  sl_unfold_words
  refine (hit1 ..).trans ?_
  simp only [View.readAt_eq_ld, h2.read_unread, h3.read_unread, h4.read_unread, View.ld_unit_zero (S := S256x1) zeros, View.ld_unit_zero (S := S256x1280) zeros]
  rw [ld1]

/-- The last point adds its block's sum to the first word, and then the constant times the second word. -/
theorem out_D0 (hc0 : ¬cond0_0 i) (hc1 : ¬cond0_1 i) (hc2 : cond0_2 i) :
    out0_D_2 c i a2 h2 a3 h3 a4 h4 hc0 hc1 hc2 x0 x1 xo e0 = k0_pay1 (xo e1) (k0_pay4 i x1 x0 (xo e0)) := by
  unfold out0_D_2 kernelRun0_D
  dsimp only
  sl_unfold_words
  refine (hit0 ..).trans ?_
  simp only [View.readAt_eq_ld, h2.read_unread, h3.read_unread, h4.read_unread, View.ld_unit_zero (S := S256x1) zeros, View.ld_unit_zero (S := S256x1280) zeros]
  rw [ld0, ld1]

/-- The last point leaves the second word. -/
theorem out_D1 (hc0 : ¬cond0_0 i) (hc1 : ¬cond0_1 i) (hc2 : cond0_2 i) :
    out0_D_2 c i a2 h2 a3 h3 a4 h4 hc0 hc1 hc2 x0 x1 xo e1 = xo e1 := by
  unfold out0_D_2 kernelRun0_D
  dsimp only
  sl_unfold_words
  refine (miss1 ..).trans ((miss1 ..).trans ?_)
  exact congrFun (h4.read_unread xo) e1

end Cert.KernelIdeal.Sum
-- ==== Proof.Block.lean ====
/-
  What one block adds, over the extended reals: to the first word the sum over the block's elements of the logit times
  minus the smoothed target times the row's mask, to the second word the number of rows whose target is not 0.
-/
module

public import proofs.«01_k».proof.Proof.Body
public import Idealize.ShloMosaic.Lib.Pipeline.ValueKit

@[expose] public section

set_option maxRecDepth 16384

noncomputable section

open Idealize.ShloMosaic Idealize.ShloMosaic.TcCoe Idealize.SL.Sem

namespace Cert.KernelIdeal.Sum

open Cert.KernelIdeal Cert.KernelIdeal.Gen

/-- A row counts when its target is not the ignored index 0. -/
def mask (w : BitVec 32) : EReal := if w = 0#32 then 0 else 1

/-- Minus the smoothed target at column `j` of a row with target `w`. -/
def weight (w : BitVec 32) (j : ℕ) : EReal :=
  if BitVec.ofNat 32 j = w then ((-(9 / 10) : ℝ) : EReal) else ((-(1 / 319990) : ℝ) : EReal)

/-- The named factor of the logarithms' part of the sum. -/
def constLog : EReal := (((1 / 10) * (Real.log (387420489 / 319990000000000)) : ℝ) : EReal)

/-- A comparison's bit, widened and made a float, is 1 where it holds and 0 elsewhere. -/
theorem bit_float (p : Bool) :
    FloatOps.sitofp (F := Ideal) FTy.f32 (BitVec.setWidth 32 (BitVec.ofBool p)) = if p then (1 : EReal) else 0 := by
  cases p
  · show (((0#32 : BitVec 32).toInt : ℝ) : EReal) = 0
    simp
  · show (((1#32 : BitVec 32).toInt : ℝ) : EReal) = 1
    simp

/-- The kernel's mask of a row: the comparison's bit as a float. -/
theorem mask_bit (w : BitVec 32) :
    FloatOps.sitofp (F := Ideal) FTy.f32 (BitVec.setWidth 32 (IntOp.cmpi CmpIPredicate.ne w 0#32)) = mask w := by
  refine (bit_float (w != 0#32)).trans ?_
  by_cases h : w = 0#32 <;> simp [mask, h]

/-- The kernel's weight: the named difference where the column is the target, less the named smoothing mass. -/
theorem weight_bit (w : BitVec 32) (j : ℕ) :
    (Named.named (F := Ideal) κ "eps_sub_conf" 0xBF666632#32 : EReal) *
          FloatOps.sitofp (F := Ideal) FTy.f32 (BitVec.setWidth 32 (IntOp.cmpi CmpIPredicate.eq (BitVec.ofNat 32 j) w))
        - Named.named (F := Ideal) κ "eps" 0x3651B8C5#32 = weight w j := by
  rw [show (Named.named κ "eps_sub_conf" 0xBF666632#32 : Ideal .f32) = ((-28799 / 31999 : ℝ) : EReal) from
      IdealRules.named_const.ideal_named_scalar _ _ _ _ rfl,
    show (Named.named κ "eps" 0x3651B8C5#32 : Ideal .f32) = ((1 / 319990 : ℝ) : EReal) from
      IdealRules.named_const.ideal_named_scalar _ _ _ _ rfl,
    show FloatOps.sitofp (F := Ideal) FTy.f32 (BitVec.setWidth 32 (IntOp.cmpi CmpIPredicate.eq (BitVec.ofNat 32 j) w))
      = _ from bit_float (BitVec.ofNat 32 j == w)]
  by_cases h : BitVec.ofNat 32 j = w
  · rw [weight, if_pos h, if_pos (by simp [h]), mul_one, ← EReal.coe_sub]
    norm_num
  · rw [weight, if_neg h, if_neg (by simp [h]), mul_zero, zero_sub, ← EReal.coe_neg]

/-- The block's count added to the second word. -/
theorem pay5_eq (x0 : Vec Ideal S256x1 .i32) (a : EReal) :
    k0_pay5 (F := Ideal) x0 a = a + ∑ r : Fin 256, mask (x0 (ix2 r 0)) := by
  pointwise [k0_pay5, k0_pay3, k0_pay2]
  simp only [mask_bit, Fin.sum_univ_one]

/-- The block's sum added to the first word. -/
theorem pay4_eq (i : grid0.Coords) (x1 : Vec Ideal S256x1280 .f32) (x0 : Vec Ideal S256x1 .i32) (a : EReal) :
    k0_pay4 (F := Ideal) i x1 x0 a
      = a + ∑ r : Fin 256, ∑ k : Fin 1280, x1 (ix2 r k) * weight (x0 (ix2 r 0)) ((i 1).val * 1280 + k.val) * mask (x0 (ix2 r 0)) := by
  have hj : ∀ k : Fin 1280, IntOp.addi (BitVec.ofNat 32 k.val) (Scalar.muli (BitVec.ofNat 32 (i 1).val) 1280#32)
      = BitVec.ofNat 32 ((i 1).val * 1280 + k.val) := fun k => by
    rw [add_comm, BitVec.ofNat_add, BitVec.ofNat_mul]
    rfl
  pointwise [k0_pay4, k0_pay3, k0_pay2]
  simp only [hj, weight_bit, mask_bit]

/-- The last point's update of the first word. -/
theorem pay1_eq (a b : EReal) : k0_pay1 (F := Ideal) a b = constLog * a + b := by
  pointwise [k0_pay1]
  rw [show (Named.named κ "c0" 0xBFAE6413#32 : Ideal .f32) = constLog from
    IdealRules.named_const.ideal_named_scalar _ _ _ _ rfl]

/-- The zero that the first point stores. -/
theorem zero_eq : (zero : Ideal .f32) = (0 : EReal) := Ideal.ofBits_zero_f32

end Cert.KernelIdeal.Sum
-- ==== Proof.Array.lean ====
/-
  What the two words of the result block hold after each grid point, over the extended reals: the sums over the points so
  far; after the last point the first word holds the constant times the count, plus the sum.
-/
module

public import proofs.«01_k».proof.Proof.Block

@[expose] public section

set_option maxRecDepth 16384

noncomputable section

open Idealize.ShloMosaic Idealize.ShloMosaic.TcCoe Idealize.SL.Sem

namespace Cert.KernelIdeal.Sum

open Cert.KernelIdeal Cert.KernelIdeal.Gen

variable (m : (ℓ : Loc nD τ sig) → Buf (Elt Ideal) ℓ) (c : Dev nD)

/-- The logit of row `i` at column `j`. -/
def logit (i j : ℕ) : EReal :=
  if h : i < 2048 ∧ j < 32000 then m ((c : Thread nD τ).loc main_arg0) (ix2 ⟨i, h.1⟩ ⟨j, h.2⟩) else 0

/-- The target of row `i`. -/
def target (i : ℕ) : BitVec 32 :=
  if h : i < 2048 then m ((c : Thread nD τ).loc main_arg1) (ix1 ⟨i, h⟩) else 0#32

/-- What row `i` and column `j` add to the kernel's first word. -/
def elem (i j : ℕ) : EReal := logit m c i j * weight (target m c i) j * mask (target m c i)

/-- The grid point `t` is row block `t / 25`, -/
theorem coord0 (t : Fin cfg0.N) : (grid0.coords t 0).val = t.val / 25 % 8 := Pipeline.Grid.coords_val t 0 (by decide) rfl
/-- column block `t % 25`. -/
theorem coord1 (t : Fin cfg0.N) : (grid0.coords t 1).val = t.val % 25 := by
  have h : (grid0.coords t 1).val = t.val / 1 % 25 := Pipeline.Grid.coords_val t 1 (by decide) rfl
  rwa [Nat.div_one] at h
/-- There are 200 grid points. -/
theorem lt_N (t : Fin cfg0.N) : t.val < 200 := lt_of_lt_of_eq t.isLt (show cfg0.N = 200 from N_0)

/-- The block of targets at a point. -/
theorem idx0 (t : Fin cfg0.N) : (cfg0.win 0).index t 0 = t.val / 25 ∧ (cfg0.win 0).index t 1 = 0 :=
  (by decide +kernel : ∀ t : Fin grid0.N, win0_0.index t 0 = t.val / 25 ∧ win0_0.index t 1 = 0) t
/-- The block of logits at a point. -/
theorem idx1 (t : Fin cfg0.N) : (cfg0.win 1).index t 0 = t.val / 25 ∧ (cfg0.win 1).index t 1 = t.val % 25 :=
  (by decide +kernel : ∀ t : Fin grid0.N, win0_1.index t 0 = t.val / 25 ∧ win0_1.index t 1 = t.val % 25) t

/-- The column of targets that the kernel reads is the vector of targets. -/
theorem V_v0 (i : Fin 2048) (j : Fin 1) :
    V m c main_call0_v0 (ix2 i j) = m ((c : Thread nD τ).loc main_arg1) (ix1 i) := by
  unfold V V0
  simp only [hostOps0, List.flatten_cons, List.flatten_nil, List.append_nil]
  after_results_simp
  pointwise

/-- The block of targets staged at point `t`. -/
theorem iblk0 (t : Fin cfg0.N) (r : Fin 256) :
    iblk m c 0 t (ix2 r 0) = target m c (t.val / 25 * 256 + r.val) := by
  have := lt_N t
  rw [target, dif_pos (by omega), ← V_v0 m c _ 0]
  blk_ext [iblk, (idx0 t).1, (idx0 t).2]

/-- The block of logits staged at point `t`. -/
theorem iblk1 (t : Fin cfg0.N) (r : Fin 256) (k : Fin 1280) :
    iblk m c 1 t (ix2 r k) = logit m c (t.val / 25 * 256 + r.val) (t.val % 25 * 1280 + k.val) := by
  have := lt_N t
  rw [logit, dif_pos (by omega)]
  blk_ext [iblk, V, (idx1 t).1, (idx1 t).2]

/-- What the block at point `k` adds to the first word. -/
def blockSum (k : ℕ) : EReal := ∑ r : Fin 256, ∑ q : Fin 1280, elem m c (k / 25 * 256 + r.val) (k % 25 * 1280 + q.val)

/-- What it adds to the second: a row block is counted once, at column block 0. -/
def blockCount (k : ℕ) : EReal := if k % 25 = 0 then ∑ r : Fin 256, mask (target m c (k / 25 * 256 + r.val)) else 0

/-- The body's update of the first word at point `t`. -/
theorem add_block (t : Fin cfg0.N) (a : EReal) :
    k0_pay4 (F := Ideal) (grid0.coords t) (iblk m c 1 t) (iblk m c 0 t) a = a + blockSum m c t.val := by
  refine (pay4_eq _ _ _ _).trans ?_
  simp only [iblk0, iblk1, coord1]
  rfl

/-- The body's update of the second word at a point `t` with column block 0. -/
theorem add_count (t : Fin cfg0.N) (h : t.val % 25 = 0) (a : EReal) :
    k0_pay5 (F := Ideal) (iblk m c 0 t) a = a + blockCount m c t.val := by
  refine (pay5_eq _ _).trans ?_
  simp only [iblk0, blockCount, if_pos h]

/-- The sum over the points before `n`, -/
def sumTo (n : ℕ) : EReal := ∑ k ∈ Finset.range n, blockSum m c k

/-- and the count. -/
def countTo (n : ℕ) : EReal := ∑ k ∈ Finset.range n, blockCount m c k

/-- One point more. -/
theorem sumTo_succ (n : ℕ) : sumTo m c (n + 1) = sumTo m c n + blockSum m c n := Finset.sum_range_succ _ _
/-- One point more. -/
theorem countTo_succ (n : ℕ) : countTo m c (n + 1) = countTo m c n + blockCount m c n := Finset.sum_range_succ _ _

/-- The two words after a point other than the last. -/
theorem words : ∀ (n : ℕ) (h : n < cfg0.N), n < 199 →
    outsAt0 m c n h e0 = sumTo m c (n + 1) ∧ outsAt0 m c n h e1 = countTo m c (n + 1)
  | 0, h, _ => by
    have hA := outsAt0_A m c ⟨0, h⟩ rfl rfl (by decide : ¬0 % 200 = 199)
    constructor
    · refine (congrFun hA e0).trans ((out_A0 ..).trans ((add_block m c ⟨0, h⟩ _).trans ?_))
      rw [zero_eq, sumTo, Finset.sum_range_one, zero_add]
    · refine (congrFun hA e1).trans ((out_A1 ..).trans ((add_count m c ⟨0, h⟩ rfl _).trans ?_))
      rw [zero_eq, countTo, Finset.sum_range_one, zero_add]
  | n + 1, h, hn => by
    obtain ⟨i0, i1⟩ := words n (Nat.lt_of_succ_lt h) (by omega)
    have g0 : ¬(n + 1) % 200 = 0 := by omega
    have g2 : ¬(n + 1) % 200 = 199 := by omega
    rw [sumTo_succ m c (n + 1), countTo_succ m c (n + 1)]
    by_cases g1 : (n + 1) % 25 = 0
    · have hC := outsAt0_C m c ⟨n + 1, h⟩ g0 g1 g2
      constructor
      · refine (congrFun hC e0).trans ((out_C0 ..).trans ((add_block m c ⟨n + 1, h⟩ _).trans ?_))
        exact congrArg (· + _) i0
      · refine (congrFun hC e1).trans ((out_C1 ..).trans ((add_count m c ⟨n + 1, h⟩ g1 _).trans ?_))
        exact congrArg (· + _) i1
    · have hB := outsAt0_B m c ⟨n + 1, h⟩ g0 g1 g2
      constructor
      · refine (congrFun hB e0).trans ((out_B0 ..).trans ((add_block m c ⟨n + 1, h⟩ _).trans ?_))
        exact congrArg (· + _) i0
      · refine (congrFun hB e1).trans ((out_B1 ..).trans ?_)
        rw [show blockCount m c (n + 1) = 0 from if_neg g1, add_zero]
        exact i1

/-- The two words after the last point. -/
theorem words_last (h : 199 < cfg0.N) :
    outsAt0 m c 199 h e0 = constLog * countTo m c 200 + sumTo m c 200 ∧ outsAt0 m c 199 h e1 = countTo m c 200 := by
  obtain ⟨i0, i1⟩ := words m c 198 (Nat.lt_of_succ_lt h) (by decide)
  have hD := outsAt0_D m c ⟨199, h⟩ (by decide : ¬199 % 200 = 0) (by decide : ¬199 % 25 = 0) rfl
  have hc : countTo m c 200 = countTo m c 199 := by
    rw [countTo_succ m c 199, show blockCount m c 199 = 0 from if_neg (by decide), add_zero]
  constructor
  · refine (congrFun hD e0).trans ((out_D0 ..).trans ((pay1_eq _ _).trans ?_))
    rw [add_block, hc, sumTo_succ m c 199]
    exact congrArg₂ (fun a b : EReal => constLog * a + (b + blockSum m c 199)) i1 i0
  · refine (congrFun hD e1).trans ((out_D1 ..).trans ?_)
    rw [hc]
    exact i1

/-- The last grid point. -/
abbrev last : Fin cfg0.N := ⟨199, by rw [show cfg0.N = 200 from N_0]; decide⟩

/-- The result array after the run: the two words after the last point. -/
theorem array : (dats m 0 c).arrAt 2 cfg0.N = outsAt0 m c 199 last.isLt := by
  refine (dats m 0 c).arrAt_eq_of_after_last 2 last (by decide +kernel) _ fun j => ?_
  blk_simp
  rw [after0_2]

end Cert.KernelIdeal.Sum
-- ==== Proof.Tail.lean ====
/-
  What the kernel's program returns: the host reads the two words of the result array and returns the first over the second.
-/
module

public import proofs.«01_k».proof.Proof.Array

@[expose] public section

set_option maxRecDepth 16384

noncomputable section

open Idealize.ShloMosaic Idealize.ShloMosaic.TcCoe Idealize.SL.Sem

namespace Cert.KernelIdeal.Sum

open Cert.KernelIdeal Cert.KernelIdeal.Gen

variable (m : (ℓ : Loc nD τ sig) → Buf (Elt Ideal) ℓ)

/-- The region leaves the two words in the array the host reads. -/
theorem out_array (c : Dev nD) :
    Pipeline.withArrays (cfgs 0).spec c (V0 m c) (fun w => (dats m 0 c).arrAt w (cfgs 0).N) (Proc.devRef .tc main_call0_v1)
      = outsAt0 m c 199 last.isLt :=
  (Pipeline.withArrays_arr (cfgs 0).spec (by decide : Function.Injective (Pipeline.arrRef spec0)) c _ _ 2).trans (array m c)

/-- What the host makes of them: the first over the second. -/
theorem tail (c : Dev nD) :
    Pipeline.afterTail₀ cfgs (dats m) 0 (V0 m) [hostOps1] c main_v0
      = fun _ => Ideal.div (constLog * countTo m c 200 + sumTo m c 200) (countTo m c 200) := by
  unfold Pipeline.afterTail₀
  simp only [hostOps1, List.flatten_cons, List.flatten_nil, List.append_nil]
  after_results_simp
  rw [out_array, ← (words_last m c last.isLt).1, ← (words_last m c last.isLt).2]
  funext j
  simp only [StableHlo.TRef.toBuf, StableHlo.TRef.ofBuf, cast_eq]
  pointwise

/-- A run of the kernel leaves this quotient in its result, whatever it starts from. -/
theorem run (ρ : Dev nD → PrngReg) :
    θ_run defs (onTc (τ := τ) (main (F := Ideal))) ⟨m, fun _ => 0, ρ⟩ (fun r => ∀ c : Dev nD,
      r.2.mem ((c.tc : Thread nD τ).loc main_v0)
        = fun _ => Ideal.div (constLog * countTo m c 200 + sumTo m c 200) (countTo m c 200)) :=
  (θ_run defs _ _).mono (fun _ h c => ((h c).2 main_v0 (Pipeline.mem_restRefs_of main_v0 (by decide) (by decide))).trans
    (tail m c)) (run_main m ρ)

end Cert.KernelIdeal.Sum
-- ==== Proof.Reindex.lean ====
/-
  The kernel's two totals, point by point of the grid, as sums over the rows and the columns of the whole arrays.
-/
module

public import proofs.«01_k».proof.Proof.Array

@[expose] public section

set_option maxRecDepth 16384

noncomputable section

open Idealize.ShloMosaic Idealize.ShloMosaic.TcCoe Idealize.SL.Sem

namespace Cert.KernelIdeal.Sum

open Cert.KernelIdeal Cert.KernelIdeal.Gen

variable (m : (ℓ : Loc nD τ sig) → Buf (Elt Ideal) ℓ) (c : Dev nD)

/-- The blocks of the grid tile the array: a sum over them, block by block, is the sum over rows and columns. -/
theorem tile (f : ℕ → ℕ → EReal) :
    ∑ k ∈ Finset.range 200, ∑ r : Fin 256, ∑ q : Fin 1280, f (k / 25 * 256 + r.val) (k % 25 * 1280 + q.val)
      = ∑ i : Fin 2048, ∑ j : Fin 32000, f i.val j.val := by
  rw [Finset.sum_range_mul_divmod 8 25 fun a b => ∑ r : Fin 256, ∑ q : Fin 1280, f (a * 256 + r.val) (b * 1280 + q.val)]
  have hcol : ∀ i, ∑ j : Fin 32000, f i j.val = ∑ b ∈ Finset.range 25, ∑ q : Fin 1280, f i (b * 1280 + q.val) := by
    intro i
    rw [Finset.sum_range fun b => ∑ q : Fin 1280, f i (b * 1280 + q.val)]
    exact (Fin.sum_univ_univ_mul_add 25 1280 (f i)).symm
  have hrow : ∀ g : ℕ → EReal, ∑ i : Fin 2048, g i.val = ∑ a ∈ Finset.range 8, ∑ r : Fin 256, g (a * 256 + r.val) := by
    intro g
    rw [Finset.sum_range fun a => ∑ r : Fin 256, g (a * 256 + r.val)]
    exact (Fin.sum_univ_univ_mul_add 8 256 g).symm
  simp only [hcol]
  rw [hrow fun i => ∑ b ∈ Finset.range 25, ∑ q : Fin 1280, f i (b * 1280 + q.val)]
  exact Finset.sum_congr rfl fun a _ => Finset.sum_comm

/-- The same of the rows alone, each row block taken at column block 0 only. -/
theorem tile_rows (g : ℕ → EReal) :
    ∑ k ∈ Finset.range 200, (if k % 25 = 0 then ∑ r : Fin 256, g (k / 25 * 256 + r.val) else 0) = ∑ i : Fin 2048, g i.val := by
  rw [Finset.sum_range_mul_divmod 8 25 fun a b => if b = 0 then ∑ r : Fin 256, g (a * 256 + r.val) else 0]
  simp only [Finset.sum_ite_eq', Finset.mem_range, Nat.ofNat_pos, if_true]
  rw [Finset.sum_range fun a => ∑ r : Fin 256, g (a * 256 + r.val)]
  exact Fin.sum_univ_univ_mul_add 8 256 g

/-- The logits of the argument, -/
abbrev logits (i : Fin 2048) (j : Fin 32000) : EReal := m ((c : Thread nD τ).loc main_arg0) (ix2 i j)
/-- and its targets. -/
abbrev targets (i : Fin 2048) : BitVec 32 := m ((c : Thread nD τ).loc main_arg1) (ix1 i)

/-- The kernel's sum, over the whole arrays. -/
theorem sum_all : sumTo m c 200 = ∑ i, ∑ j, logits m c i j * weight (targets m c i) j.val * mask (targets m c i) := by
  refine (tile (elem m c)).trans (Finset.sum_congr rfl fun i _ => Finset.sum_congr rfl fun j _ => ?_)
  rw [elem, logit, target, dif_pos ⟨i.isLt, j.isLt⟩, dif_pos i.isLt]

/-- The kernel's count. -/
theorem count_all : countTo m c 200 = ∑ i, mask (targets m c i) := by
  refine (tile_rows fun i => mask (target m c i)).trans (Finset.sum_congr rfl fun i _ => ?_)
  rw [target, dif_pos i.isLt]

end Cert.KernelIdeal.Sum
-- ==== Proof.Row.lean ====
/-
  The equation between the two programs on one row, and over all rows: numbers only, no program.
-/
module

public import proofs.«01_k».proof.Proof.Block

@[expose] public section

set_option maxRecDepth 16384

noncomputable section

open Idealize.ShloMosaic Idealize.ShloMosaic.TcCoe Idealize.SL.Sem

namespace Cert.KernelIdeal.Sum

/-- The smoothed probability of column `j` in a row whose target is `w`. -/
def smooth (w : BitVec 32) (j : ℕ) : ℝ := if BitVec.ofNat 32 j = w then 9 / 10 else 1 / 319990

/-- It is positive. -/
theorem smooth_pos (w : BitVec 32) (j : ℕ) : 0 < smooth w j := by
  unfold smooth
  split <;> norm_num

/-- The kernel's weight is the negated probability. -/
theorem weight_eq (w : BitVec 32) (j : ℕ) : weight w j = ((-smooth w j : ℝ) : EReal) := by
  unfold weight smooth
  split <;> rfl

/-- One term of the divergence, split into the part without the logit and the part with it, for any extended real logit. -/
theorem term_split (a l : ℝ) (ha : 0 < a) (x : EReal) :
    (a : EReal) * ((l : EReal) - x) = ((a * l : ℝ) : EReal) + x * ((-a : ℝ) : EReal) := by
  have hn : -a < 0 := by linarith
  induction x with
  | bot =>
    rw [EReal.bot_mul_coe_of_neg hn, EReal.coe_sub_bot, EReal.coe_mul_top_of_pos ha, EReal.coe_add_top]
  | top =>
    rw [EReal.top_mul_coe_of_neg hn, EReal.sub_top, EReal.coe_mul_bot_of_pos ha, EReal.add_bot]
  | coe x =>
    rw [← EReal.coe_sub, ← EReal.coe_mul, ← EReal.coe_mul, ← EReal.coe_add]
    congr 1
    ring

/-- Real sums stay real. -/
theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- The negated entropy of a row's probabilities: the same for every target in range. -/
theorem entropy (w : BitVec 32) (hw : w.toNat < 32000) :
    ∑ j : Fin 32000, smooth w j.val * Real.log (smooth w j.val) = (1 / 10) * Real.log (387420489 / 319990000000000) := by
  have h : ∀ j : Fin 32000, smooth w j.val * Real.log (smooth w j.val)
      = (if j = ⟨w.toNat, hw⟩ then (9 / 10) * Real.log (9 / 10) - (1 / 319990) * Real.log (1 / 319990) else 0)
        + (1 / 319990) * Real.log (1 / 319990) := by
    intro j
    have e : BitVec.ofNat 32 j.val = w ↔ j = ⟨w.toNat, hw⟩ := by
      have := j.isLt
      rw [← BitVec.toNat_inj, BitVec.toNat_ofNat, Nat.mod_eq_of_lt (by omega), Fin.ext_iff]
    unfold smooth
    by_cases hj : BitVec.ofNat 32 j.val = w
    · rw [if_pos hj, if_pos (e.1 hj)]; ring
    · rw [if_neg hj, if_neg fun q => hj (e.2 q)]; ring
  rw [Finset.sum_congr rfl fun j _ => h j, Finset.sum_add_distrib, Finset.sum_ite_eq', if_pos (Finset.mem_univ _),
    Finset.sum_const, Finset.card_univ, Fintype.card_fin, nsmul_eq_mul,
    show (387420489 / 319990000000000 : ℝ) = (9 / 10) ^ 9 * (1 / 319990) by norm_num,
    Real.log_mul (by norm_num) (by norm_num), Real.log_pow]
  push_cast
  ring

/-- One row in range: the divergence is the constant plus the weighted sum of the logits. -/
theorem row (w : BitVec 32) (hw : w.toNat < 32000) (x : Fin 32000 → EReal) :
    ∑ j, (smooth w j.val : EReal) * ((Real.log (smooth w j.val) : ℝ) - x j) = constLog + ∑ j, x j * weight w j.val := by
  rw [Finset.sum_congr rfl fun j _ => term_split _ _ (smooth_pos w j.val) (x j), Finset.sum_add_distrib, coe_sum, entropy w hw]
  exact congrArg (constLog + ·) (Finset.sum_congr rfl fun j _ => by rw [weight_eq])

/-- A row as the reference selects it (nothing from a row whose target is zero), in the kernel's terms. -/
theorem masked_row (w : BitVec 32) (hw : w.toNat < 32000) (x : Fin 32000 → EReal) :
    ∑ j, (if w = 0#32 then 0 else (smooth w j.val : EReal) * ((Real.log (smooth w j.val) : ℝ) - x j))
      = constLog * mask w + ∑ j, x j * weight w j.val * mask w := by
  by_cases h : w = 0#32
  · simp only [mask, if_pos h, mul_zero, Finset.sum_const_zero, add_zero]
  · simp only [mask, if_neg h, mul_one]
    exact row w hw x

/-- The mask as a real number. -/
theorem mask_coe (w : BitVec 32) : mask w = ((if w = 0#32 then 0 else 1 : ℝ) : EReal) := by
  unfold mask
  split <;> rfl

/-- All rows. -/
theorem rows (t : Fin 2048 → BitVec 32) (ht : ∀ i, (t i).toNat < 32000) (x : Fin 2048 → Fin 32000 → EReal) :
    ∑ i, ∑ j, (if t i = 0#32 then 0 else (smooth (t i) j.val : EReal) * ((Real.log (smooth (t i) j.val) : ℝ) - x i j))
      = constLog * ∑ i, mask (t i) + ∑ i, ∑ j, x i j * weight (t i) j.val * mask (t i) := by
  rw [Finset.sum_congr rfl fun i _ => masked_row (t i) (ht i) (x i), Finset.sum_add_distrib]
  congr 1
  simp only [mask_coe, constLog, ← EReal.coe_mul, coe_sum, Finset.mul_sum]

end Cert.KernelIdeal.Sum
-- ==== Proof.Scatter.lean ====
/-
  The reference's table of smoothed probabilities, read at a row and a column.
-/
module

public import proofs.«01_k».proof.Proof.Row
public import proofs.«01_k».proof.Proof.Gen.ReferenceIdeal.Run
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem

namespace Cert.ReferenceIdeal.Sum

open Cert.ReferenceIdeal Cert.ReferenceIdeal.Gen

/-- The scatter of one scalar per row. -/
abbrev sd : ScatterDims S2048x32000 S2048x2 S2048 := scatter_S2048x32000_S2048x2_S2048_n_01_01_1

/-- Row `k`'s update starts, on either axis, at that axis's word of the row's pair. -/
theorem start_eq (idx : IVec S2048x2 32) (k : Fin 2048) (a : Fin 2) : sd.start (ix1 k) idx a = (idx (ix2 k a)).toInt := by
  unfold ScatterDims.start
  rw [dif_pos (by fin_cases a <;> decide)]
  congr 2
  funext b
  fin_cases a <;> fin_cases b <;> rfl

/-- It has no window. -/
theorem window_eq (k : Fin 2048) (a : Fin 2) : sd.window (ix1 k) a = 0 := by
  unfold ScatterDims.window
  rw [dif_neg (by fin_cases a <;> decide)]

/-- Row `k`'s update lands at `(r, j)` exactly when its two words, read signed, are `r` and `j`. -/
theorem lands (idx : IVec S2048x2 32) (k r : Fin 2048) (j : Fin 32000) :
    sd.resultIdx? (ix1 k) idx = some (ix2 r j) ↔ (idx (ix2 k 0)).toInt = r.val ∧ (idx (ix2 k 1)).toInt = j.val := by
  refine (Routing.resultIdx?_ix2 sd (ix1 k) idx r j).trans ?_
  rw [start_eq, start_eq, window_eq, window_eq, Nat.cast_zero, add_zero, add_zero]

/-- So a scatter of one value `v` over a table of `b`, by rows numbered in order, holds `v` in row `r` at that row's
    column and `b` elsewhere. -/
theorem scatter_eq (b v : EReal) (x0 : S2048x32000.Idx → EReal) (upd : S2048.Idx → EReal) (hx : ∀ i, x0 i = b) (hu : ∀ i, upd i = v)
    (idx : IVec S2048x2 32) (t : Fin 2048 → BitVec 32) (ht : ∀ k, (t k).toNat < 32000)
    (h0 : ∀ k, idx (ix2 k 0) = BitVec.ofNat 32 k.val) (h1 : ∀ k, idx (ix2 k 1) = t k) (r : Fin 2048) (j : Fin 32000) :
    Host.scatter sd (fun _ b => b) x0 idx upd (ix2 r j) = if BitVec.ofNat 32 j.val = t r then v else b := by
  have hj := j.isLt
  have small : ∀ n, n < 32000 → (BitVec.ofNat 32 n).toInt = n := fun n hn =>
    StableHlo.Predicate.toInt_ofNat_small n (by omega)
  have key : ∀ k : Fin 2048, sd.resultIdx? (ix1 k) idx = some (ix2 r j) ↔ k = r ∧ BitVec.ofNat 32 j.val = t k := by
    intro k
    have hk := k.isLt
    have e : t k = BitVec.ofNat 32 (t k).toNat := by simp
    rw [lands, h0, h1, small _ (by omega), e, small _ (ht k), Fin.ext_iff, ← BitVec.toNat_inj]
    have := ht k
    simp only [BitVec.toNat_ofNat, BitVec.toNat_mod_cancel]
    rw [Nat.mod_eq_of_lt (by omega : j.val < 2 ^ 32)]
    omega
  by_cases h : BitVec.ofNat 32 j.val = t r
  · rw [if_pos h]
    exact Routing.scatter_set_hit sd x0 idx upd _ v (fun k _ => hu k) (ix1 r) ((key r).2 ⟨rfl, h⟩)
  · rw [if_neg h, ← hx (ix2 r j)]
    refine Routing.scatter_set_miss sd x0 idx upd _ fun k q => h ?_
    rw [eq_ix1 k] at q
    obtain ⟨e, q⟩ := (key _).1 q
    rw [← e]
    exact q

end Cert.ReferenceIdeal.Sum
-- ==== Proof.Reference.lean ====
/-
  What the reference returns, as sums over rows and columns.
-/
module

public import proofs.«01_k».proof.Proof.Scatter
public import Idealize.ShloMosaic.Lib.WordSum

@[expose] public section

set_option maxRecDepth 16384

noncomputable section

open Idealize.ShloMosaic Idealize.ShloMosaic.TcCoe Idealize.SL.Sem

namespace Cert.ReferenceIdeal.Sum

open Cert.ReferenceIdeal Cert.ReferenceIdeal.Gen Cert.ReferenceIdeal.Value
open Cert.KernelIdeal.Sum (mask smooth)

variable (m : (ℓ : Loc nD τ sig) → Buf (Elt Ideal) ℓ) (c : Dev nD)

/-- The reference's literal 10. -/
theorem ten_eq : Ideal.ofBits .f32 0x41200000#32 = ((10 : ℝ) : EReal) := by
  simp [Ideal.ofBits, Ideal.ieee, -EReal.coe_mul]
  norm_num
/-- The number of the other columns. -/
theorem width_eq : Ideal.ofBits .f32 0x46F9FE00#32 = ((31999 : ℝ) : EReal) := by
  simp [Ideal.ofBits, Ideal.ieee, -EReal.coe_mul]
  norm_num

/-- The smoothing mass of one column, a quotient in the program, as the real number. -/
theorem rest_eq : Ideal.div (Ideal.div 1 (Ideal.ofBits .f32 0x41200000#32)) (Ideal.ofBits .f32 0x46F9FE00#32)
    = ((1 / 319990 : ℝ) : EReal) := by
  rw [ten_eq, width_eq, Ideal.div_coe (by norm_num), Ideal.div_coe (by norm_num), one_mul, ← EReal.coe_mul]
  norm_num
/-- The confidence. -/
theorem peak_eq : 1 - Ideal.div 1 (Ideal.ofBits .f32 0x41200000#32)
    = ((9 / 10 : ℝ) : EReal) := by
  rw [ten_eq, Ideal.div_coe (by norm_num), one_mul, ← EReal.coe_one, ← EReal.coe_sub]
  norm_num

/-- The mask's bit where the target is not zero. -/
theorem bit_ne (w : BitVec 32) (h : w ≠ 0#32) : IntOp.cmpi .ne w 0#32 = 1#1 := by
  show BitVec.ofBool (w != 0#32) = 1#1
  rw [bne_iff_ne.2 h]
  rfl

/-- A masked target is the target itself: the mask is only off where the target is zero already. -/
theorem mask_target (w : BitVec 32) : Scalar.select (IntOp.cmpi .ne w 0#32) w 0#32 = w := by
  by_cases h : w = 0#32
  · subst h; rfl
  · rw [bit_ne w h]
    rfl

/-- A fold by addition of bits counts them. -/
theorem fold_bits {ι : Type} (p : ι → Bool) (S : Finset ι) :
    S.fold IntOp.addi 0#32 (fun x => BitVec.setWidth 32 (BitVec.ofBool (p x))) = BitVec.ofNat 32 (∑ x ∈ S, (p x).toNat) := by
  induction S using Finset.cons_induction with
  | empty => rfl
  | cons a S ha ih =>
    rw [Finset.fold_cons, ih, Finset.sum_cons, BitVec.ofNat_add]
    refine congrArg (· + _) ?_
    cases p a <;> rfl

/-- The reference's count of the tokens. -/
theorem count_eq (t : S2048.Idx → BitVec 32) (j : S_.Idx) :
    FloatOps.sitofp (F := Ideal) .f32 (Finset.fold IntOp.addi 0#32 (fun x => BitVec.setWidth 32 (IntOp.cmpi .ne (t x) 0#32))
        (Finset.univ.filter fun i => reducesTo_S2048_S_d0.drop i = j))
      = ∑ i : Fin 2048, mask (t (ix1 i)) := by
  have hS : (Finset.univ.filter fun i => reducesTo_S2048_S_d0.drop i = j) = Finset.univ :=
    Finset.filter_true_of_mem fun i _ => funext fun a => a.elim0
  have hsum : ∑ x : S2048.Idx, (t x != 0#32).toNat = ∑ i : Fin 2048, (t (ix1 i) != 0#32).toNat :=
    (Finset.sum_congr rfl fun x _ => by rw [← eq_ix1 x]).trans (Fin.sum_idx1 S2048.size fun k => (t (ix1 k) != 0#32).toNat)
  have hle : ∑ i : Fin 2048, (t (ix1 i) != 0#32).toNat ≤ 2048 := by
    refine (Finset.sum_le_card_nsmul _ _ 1 fun i _ => Bool.toNat_le _).trans ?_
    simp
  rw [hS]
  refine (congrArg _ (fold_bits (fun x => t x != 0#32) Finset.univ)).trans ?_
  rw [hsum]
  show (((BitVec.ofNat 32 _).toInt : ℝ) : EReal) = _
  rw [StableHlo.Predicate.toInt_ofNat_small _ (by omega), Int.cast_natCast, Nat.cast_sum, ← Cert.KernelIdeal.Sum.coe_sum]
  refine Finset.sum_congr rfl fun i _ => ?_
  by_cases h : t (ix1 i) = 0#32 <;> simp [mask, h]

/-- The logits of the argument, -/
abbrev logits (i : Fin 2048) (j : Fin 32000) : EReal := m ((c : Thread nD τ).loc main_arg0) (ix2 i j)
/-- and its targets. -/
abbrev targets (i : Fin 2048) : BitVec 32 := m ((c : Thread nD τ).loc main_arg1) (ix1 i)

/-- The reference's result, for targets in range: the divergence of the masked rows over their count. -/
theorem result (ht : ∀ i, (targets m c i).toNat < 32000) :
    res_main_v33 m c = fun _ => Ideal.div
      (∑ i, ∑ j, (if targets m c i = 0#32 then 0
        else (smooth (targets m c i) j.val : EReal) * ((Real.log (smooth (targets m c i) j.val) : ℝ) - logits m c i j)))
      (∑ i, mask (targets m c i)) := by
  funext j0
  unfold res_main_v33
  pointwise
  refine congrArg₂ Ideal.div (Finset.sum_congr rfl fun i _ => Finset.sum_congr rfl fun j _ => ?_)
    (count_eq (m ((c : Thread nD τ).loc main_arg1)) j0)
  rw [scatter_eq ((1 / 319990 : ℝ) : EReal) ((9 / 10 : ℝ) : EReal) _ _ ?_ ?_ _ (targets m c) ht ?_ ?_]
  · rw [show (if BitVec.ofNat 32 j.val = targets m c i then ((9 / 10 : ℝ) : EReal) else ((1 / 319990 : ℝ) : EReal))
        = (smooth (targets m c i) j.val : EReal) by unfold smooth; split <;> rfl,
      Ideal.log_coe, if_neg (not_le.2 (Cert.KernelIdeal.Sum.smooth_pos _ _))]
    by_cases h : targets m c i = 0#32
    · rw [if_pos h, show m ((c : Thread nD τ).loc main_arg1) (ix1 i) = 0#32 from h]
      rfl
    · rw [if_neg h, bit_ne _ h]
      rfl
  · intro k
    pointwise
    exact rest_eq
  · intro k
    pointwise
    exact peak_eq
  · intro k
    pointwise
    refine Routing.wrap_of_lt _ _ ?_
    have := k.isLt
    rw [BitVec.toNat_ofNat, Nat.mod_eq_of_lt (by omega)]
    omega
  · intro k
    pointwise
    rw [show id (constantI S_ 32 0#32) ix0 = 0#32 from rfl, mask_target]
    refine Routing.wrap_of_lt _ _ ?_
    exact (ht k).trans (by decide)

end Cert.ReferenceIdeal.Sum
-- ==== Proof.Range.lean ====
/-
  The precondition read back: every target is below the number of columns.
-/
module

public import proofs.«01_k».proof.Proof.Gen.Pre_in_range
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Pre_in_range

open Facts

/-- A word between 0 and 32000, compared signed, has that value. -/
theorem word_lt (w : BitVec 32) (h0 : IntOp.cmpi .sge w 0#32 = 1#1) (h1 : IntOp.cmpi .slt w 32000#32 = 1#1) : w.toNat < 32000 := by
  have a : BitVec.sle 0#32 w = true := by
    have e : BitVec.ofBool (BitVec.sle 0#32 w) = 1#1 := h0
    cases q : BitVec.sle 0#32 w
    · rw [q] at e; exact absurd e (by decide)
    · rfl
  have b : BitVec.slt w 32000#32 = true := by
    have e : BitVec.ofBool (BitVec.slt w 32000#32) = 1#1 := h1
    cases q : BitVec.slt w 32000#32
    · rw [q] at e; exact absurd e (by decide)
    · rfl
  rw [BitVec.sle_iff_toInt_le] at a
  rw [BitVec.slt_iff_toInt_lt] at b
  have c0 : (0#32 : BitVec 32).toInt = 0 := rfl
  have c1 : (32000#32 : BitVec 32).toInt = 32000 := rfl
  rw [c0, BitVec.toInt_eq_toNat_cond] at a
  rw [c1, BitVec.toInt_eq_toNat_cond] at b
  split at a <;> omega

/-- The precondition says it of every row. -/
theorem bound [Cert.Pre_in_range.Facts] (x : FVec Ideal S2048x32000 .f32) (t : IVec S2048 32) (h : fn x t = fun _ => 1#1) (i : Fin 2048) :
    (t (ix1 i)).toNat < 32000 := by
  haveI : Subsingleton S_.Idx := ⟨fun a b => funext fun q => q.elim0⟩
  have e := Host.reduce_andi_all _ _ _ _ ix0 (congrFun h ix0) (ix1 i)
  obtain ⟨h0, h1⟩ := IntOp.andi_eq_one.1 e
  exact word_lt _ h0 h1

end Cert.Pre_in_range
-- ==== Proof.Equal.lean ====
/-
  The two programs return the same number when they are given the same arguments and every target is in range.
-/
module

public import proofs.«01_k».proof.Defs
public import proofs.«01_k».proof.Proof.Tail
public import proofs.«01_k».proof.Proof.Reindex
public import proofs.«01_k».proof.Proof.Reference
public import proofs.«01_k».proof.Proof.Range
public import Idealize.ShloMosaic.Lib.Claim

@[expose] public section

set_option maxRecDepth 16384

noncomputable section

open Idealize.ShloMosaic Idealize.ShloMosaic.TcCoe Idealize.SL.Sem

namespace Cert.Proof

/-- Host side and kernel side of the claim's equation, from equal arguments. -/
theorem equal [Cert.Pre_in_range.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_in_range.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (hx : Cert.ReferenceIdeal.Sum.logits m' c = Cert.KernelIdeal.Sum.logits m c)
    (ht : Cert.ReferenceIdeal.Sum.targets m' c = Cert.KernelIdeal.Sum.targets m c) :
    Cert.ReferenceIdeal.Value.res_main_v33 m' c
      = fun _ => Ideal.div (Cert.KernelIdeal.Sum.constLog * Cert.KernelIdeal.Sum.countTo m c 200 + Cert.KernelIdeal.Sum.sumTo m c 200)
          (Cert.KernelIdeal.Sum.countTo m c 200) := by
  have hb : ∀ i, (Cert.KernelIdeal.Sum.targets m c i).toNat < 32000 := Cert.Pre_in_range.bound _ _ hpre
  rw [Cert.ReferenceIdeal.Sum.result m' c (by rw [ht]; exact hb), hx, ht, Cert.KernelIdeal.Sum.count_all, Cert.KernelIdeal.Sum.sum_all,
    Cert.KernelIdeal.Sum.rows _ hb]

/-- The value claim. -/
theorem algebraic [Cert.KernelIdeal.Facts] [Cert.ReferenceIdeal.Facts] [Cert.Pre_in_range.Facts] :
    Cert.algebraic_KernelIdeal_ReferenceIdeal_pre_in_range := by
  intro m g m' g' hpre hagree
  refine ⟨fun c _ => Ideal.div (Cert.KernelIdeal.Sum.constLog * Cert.KernelIdeal.Sum.countTo m c 200 + Cert.KernelIdeal.Sum.sumTo m c 200)
    (Cert.KernelIdeal.Sum.countTo m c 200), ?_, ?_⟩
  · exact (θ_run _ _ _).mono (fun _ h c => ⟨h.1 c, h.2 c⟩)
      (θ_run_and (Cert.KernelIdeal.Sum.run m g) (Cert.KernelIdeal.Gen.unchanged m g))
  · refine (θ_run _ _ _).mono (fun _ h c => ⟨(h c).1.trans ?_, (h c).2⟩) (Cert.ReferenceIdeal.Value.run m' g')
    exact equal m m' c (hpre c) (funext fun i => funext fun j => congrFun (hagree c).1 (ix2 i j))
      (funext fun i => congrFun (hagree c).2 (ix1 i))

end Cert.Proof
-- ==== Proof.lean ====
/-
  The claims put together: the three frames, the named constants of the idealized kernel, and the equality of the two
  programs' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's frame: its run leaves the arguments, and it has no semaphore. -/
theorem frame_R [Cert.ReferenceIdeal.Facts] : Cert.quiescent_ReferenceIdeal := by
  intro m g _
  exact (θ_run _ _ _).mono (fun r h => ⟨fun c => (h c).2, sem_eq_zero_of_no_sems (by decide) r.2⟩) (Cert.ReferenceIdeal.Value.run m g)

/-- The three constants that the idealized kernel names. -/
theorem preserves : Cert.preserves_Kernel_KernelIdeal :=
  ⟨IdealRules.named_const.statement Cert.KernelIdeal.κ "eps_sub_conf" .f32 0xBF666632#32 ((-28799 / 31999 : ℝ) : EReal) rfl,
    IdealRules.named_const.statement Cert.KernelIdeal.κ "eps" .f32 0x3651B8C5#32 ((1 / 319990 : ℝ) : EReal) rfl,
    IdealRules.named_const.statement Cert.KernelIdeal.κ "c0" .f32 0xBFAE6413#32
      (((1 / 10) * (Real.log (387420489 / 319990000000000)) : ℝ) : EReal) rfl⟩

/-- The claims: the frames, the named constants, the values. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  frame_R, fun m ρ _ => frame_R m ρ trivial, preserves, algebraic⟩

end Cert.Proof

end
